-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S10x1x5000 : Shape := ⟨3, ![10, 1, 5000]⟩
abbrev S1x256 : Shape := ⟨2, ![1, 256]⟩
abbrev S1x1 : Shape := ⟨2, ![1, 1]⟩
abbrev S4x128 : Shape := ⟨2, ![4, 128]⟩
abbrev S1x1x5000 : Shape := ⟨3, ![1, 1, 5000]⟩
abbrev S5000x256 : Shape := ⟨2, ![5000, 256]⟩
abbrev S5000x1 : Shape := ⟨2, ![5000, 1]⟩
abbrev S5000 : Shape := ⟨1, ![5000]⟩
abbrev S5000x128 : Shape := ⟨2, ![5000, 128]⟩
abbrev S5000x4 : Shape := ⟨2, ![5000, 4]⟩
abbrev S512 : Shape := ⟨1, ![512]⟩

abbrev nBuf : Space → Nat
  | .hbm => 11
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S10x1x5000, .i32⟩
  | .hbm, ⟨7, _⟩ => ⟨S1x256, .f32⟩
  | .hbm, ⟨8, _⟩ => ⟨S1x1, .f32⟩
  | .hbm, ⟨9, _⟩ => ⟨S4x128, .f32⟩
  | .hbm, ⟨10, _⟩ => ⟨S512, .f32⟩
  | .local _ .vmem, ⟨0, _⟩ => ⟨S1x1x5000, .i32⟩
  | .local _ .vmem, ⟨1, _⟩ => ⟨S1x1x5000, .i32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S4x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S512x1 : Shape := ⟨2, ![512, 1]⟩
abbrev S512 : Shape := ⟨1, ![512]⟩

abbrev nBuf : Space → Nat
  | .hbm => 28
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S50000x256, .f32⟩
  | .hbm, ⟨12, _⟩ => ⟨S_, .f32⟩
  | .hbm, ⟨13, _⟩ => ⟨S50000x256, .f32⟩
  | .hbm, ⟨14, _⟩ => ⟨S50000x256, .f32⟩
  | .hbm, ⟨15, _⟩ => ⟨S_, .f32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S50000x1, .f32⟩
  | .hbm, ⟨20, _⟩ => ⟨S1x1, .f32⟩
  | .hbm, ⟨21, _⟩ => ⟨S50000x1, .f32⟩
  | .hbm, ⟨22, _⟩ => ⟨S50000x1, .f32⟩
  | .hbm, ⟨23, _⟩ => ⟨S_, .f32⟩
  | .hbm, ⟨24, _⟩ => ⟨S512x1, .f32⟩
  | .hbm, ⟨25, _⟩ => ⟨S50000x1, .i32⟩
  | .hbm, ⟨26, _⟩ => ⟨S512x1, .f32⟩
  | .hbm, ⟨27, _⟩ => ⟨S512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Proof.Pooling.Gate.lean ====
/-
  The gate of the readout network. The kernel multiplies a hidden value `x` by `½ · tanh (½ · x) + ½`, the reference by
  `1 / (1 + exp (−x))`. Over the extended reals the two products are one value at every `x`, the infinities included.
-/
module

public import Idealize.ShloMosaic.PureOps
public import Idealize.ShloMosaic.PureOps.Ideal
public import Idealize.ShloMosaic.Lib.IdealHost

@[expose] public section

noncomputable section

namespace Cert.Pooling

open Idealize.ShloMosaic

/-- The single-precision pattern the kernel writes for one half denotes one half. -/
theorem half_pattern : Ideal.ofBits .f32 0x3F000000#32 = ((1 / 2 : ℝ) : EReal) := by
  simp [Ideal.ofBits, Ideal.ieee]
  rw [← EReal.coe_mul]
  norm_num

/-- On the reals, half of one plus the hyperbolic tangent of `r / 2` is the logistic function of `r`. -/
theorem half_tanh (r : ℝ) : 1 / 2 * Real.tanh (1 / 2 * r) + 1 / 2 = 1 / (1 + Real.exp (-r)) := by
  have e : Real.exp (-r) = Real.exp (-(1 / 2 * r)) * Real.exp (-(1 / 2 * r)) := by
    rw [← Real.exp_add]; congr 1; ring
  have i : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have ha : a = 1 / b := by field_simp; exact i
  subst ha
  field_simp
  ring

/-- The gate: the value a hidden unit sends on, as the reference writes it. -/
def gate (x : EReal) : EReal := x * Ideal.div 1 (1 + Ideal.exp (-x))

/-- The kernel's spelling of the gate is the reference's, at every extended real. -/
theorem gate_eq (x : EReal) :
    x * (((1 / 2 : ℝ) : EReal) * Ideal.tanh (((1 / 2 : ℝ) : EReal) * x) + ((1 / 2 : ℝ) : EReal)) = gate x := by
  unfold gate
  induction x with
  | bot =>
    have h : ((1 / 2 : ℝ) : EReal) * ⊥ = ⊥ := EReal.coe_mul_bot_of_pos (by norm_num)
    have z : ((1 / 2 : ℝ) : EReal) * (-1) + ((1 / 2 : ℝ) : EReal) = 0 := by
      rw [show (-1 : EReal) = ((-1 : ℝ) : EReal) by simp, ← EReal.coe_mul, ← EReal.coe_add]
      norm_num
    have t : (1 : EReal) + ⊤ = ⊤ := EReal.coe_add_top 1
    have d : Ideal.div 1 (1 + ⊤) = 0 := by rw [t]; simp [Ideal.div]
    rw [h, Ideal.tanh_bot, z, EReal.neg_bot, Ideal.exp_top, d]
  | top =>
    have h : ((1 / 2 : ℝ) : EReal) * ⊤ = ⊤ := EReal.coe_mul_top_of_pos (by norm_num)
    have z : ((1 / 2 : ℝ) : EReal) * 1 + ((1 / 2 : ℝ) : EReal) = 1 := by
      rw [mul_one, ← EReal.coe_add]
      norm_num
    have d : Ideal.div 1 (1 + 0) = 1 := by simp [Ideal.div]
    rw [h, Ideal.tanh_top, z, EReal.neg_top, Ideal.exp_bot, d]
  | coe r =>
    have n : (1 + Real.exp (-r) : ℝ) ≠ 0 := by positivity
    have d : Ideal.div 1 (1 + Ideal.exp (-(r : EReal))) = ((1 / (1 + Real.exp (-r)) : ℝ) : EReal) := by
      rw [← EReal.coe_neg, Ideal.exp_coe, ← EReal.coe_one, ← EReal.coe_add, Ideal.div_coe n, EReal.coe_one, one_mul]
    rw [d, ← EReal.coe_mul, Ideal.tanh_coe, ← EReal.coe_mul, ← EReal.coe_add, half_tanh]

end Cert.Pooling

end
-- ==== Proof.Pooling.Readout.lean ====
/-
  What the network says about one atom, and what a molecule collects from a list of atoms, in plain sums over the
  extended reals. Both programs are proved to compute these.
-/
module

public import proofs.«01_k».proof.Proof.Pooling.Gate
public import Mathlib.Algebra.BigOperators.Fin

@[expose] public section

noncomputable section

namespace Cert.Pooling

open Idealize.ShloMosaic
open scoped BigOperators

/-- Hidden unit `j` of an atom with features `e`: the affine layer before the gate. -/
def hiddenUnit (e : Fin 256 → EReal) (w1 : Fin 256 → Fin 256 → EReal) (b1 : Fin 256 → EReal) (j : Fin 256) : EReal :=
  (∑ i, e i * w1 i j) + b1 j

/-- The energy of an atom with features `e`: the gated hidden units weighted by `w2`, plus the bias `b2`. -/
def readout (e : Fin 256 → EReal) (w1 : Fin 256 → Fin 256 → EReal) (b1 : Fin 256 → EReal) (w2 : Fin 256 → EReal)
    (b2 : EReal) : EReal :=
  (∑ j, gate (hiddenUnit e w1 b1 j) * w2 j) + b2

/-- What molecule `k` collects from `n` atoms: the energies of the atoms whose molecule number, read signed, is `k`. -/
def collected {n : ℕ} (mol : Fin n → BitVec 32) (energy : Fin n → EReal) (k : ℕ) : EReal :=
  ∑ a, if (mol a).toInt = (k : ℤ) then energy a else 0

end Cert.Pooling

end
-- ==== Proof.Pooling.Words.lean ====
/-
  The kernel splits a molecule number, a signed 32-bit word, in a high part (which of the four rows of its table) and a
  low part (which of the 128 places of that row): the floored quotient and the floored remainder by 128, each written as
  the truncated one with a correction. The two parts name place `(h, l)` exactly when the word, read signed, is
  `128 h + l`; no bound on the word is needed.
-/
module

public import Idealize.ShloMosaic.PureOps
public import Mathlib.Tactic.Ring

@[expose] public section

namespace Cert.Pooling

open Idealize.ShloMosaic

/-- The low part as the kernel computes it from the truncated remainder. -/
def lowPart (w : BitVec 32) : BitVec 32 :=
  Scalar.select (IntOp.andi (IntOp.xori (IntOp.cmpi .slt (IntOp.remsi .vector w 128#32) 0#32) 0#1)
      (IntOp.cmpi .ne (IntOp.remsi .vector w 128#32) 0#32))
    (IntOp.addi (IntOp.remsi .vector w 128#32) 128#32) (IntOp.remsi .vector w 128#32)

/-- The high part as the kernel computes it from the truncated quotient, the sign of the word, and the remainder. -/
def highPart (w : BitVec 32) : BitVec 32 :=
  Scalar.select (IntOp.andi
      (IntOp.cmpi .ne (IntOp.subi ((IntOp.cmpi .sgt w 0#32).setWidth 32) ((IntOp.cmpi .slt w 0#32).setWidth 32)) 1#32)
      (IntOp.cmpi .ne (IntOp.remsi .vector w 128#32) 0#32))
    (IntOp.subi (IntOp.divsi .vector w 128#32) 1#32) (IntOp.divsi .vector w 128#32)

/-- The truncated remainder by 128, read signed. -/
theorem toInt_rem (w : BitVec 32) : (IntOp.remsi .vector w 128#32).toInt = w.toInt.tmod 128 := by
  unfold IntOp.remsi
  rw [if_neg (by unfold IntOp.SDivCorner; rintro (h | ⟨-, h⟩) <;> revert h <;> decide), BitVec.toInt_srem]
  rfl

/-- The truncated quotient by 128, read signed. -/
theorem toInt_quot (w : BitVec 32) : (IntOp.divsi .vector w 128#32).toInt = w.toInt.tdiv 128 := by
  unfold IntOp.divsi
  rw [if_neg (by unfold IntOp.SDivCorner; rintro (h | ⟨-, h⟩) <;> revert h <;> decide),
    BitVec.toInt_sdiv_of_ne_or_ne _ _ (.inr (by decide))]
  rfl

/-- A select on a one-bit word is the choice on whether the word is one. -/
theorem pick_bit {α : Type} (p : Bool) (a b : α) : Scalar.select (BitVec.ofBool p) a b = if p then a else b := by
  cases p <;> rfl

/-- The truncated remainder's word is zero exactly when the remainder is. -/
theorem word_eq_zero_iff (v : BitVec 32) : v = 0#32 ↔ v.toInt = 0 := by
  rw [← BitVec.toInt_inj]; rfl

/-- The low part, read signed, is the floored remainder. -/
theorem toInt_lowPart (w : BitVec 32) : (lowPart w).toInt = w.toInt % 128 := by
  have hr := toInt_rem w
  have hb := BitVec.le_toInt w
  have hb' := BitVec.toInt_lt (x := w)
  unfold lowPart
  generalize IntOp.remsi .vector w 128#32 = r at *
  have hm : r.toInt = if 0 ≤ w.toInt then w.toInt % 128 else -((-w.toInt) % 128) := by
    rw [hr]
    split
    · exact Int.tmod_eq_emod_of_nonneg ‹_›
    · rw [← Int.tmod_eq_emod_of_nonneg (by omega), Int.neg_tmod, neg_neg]
  have hc : IntOp.andi (IntOp.xori (IntOp.cmpi .slt r 0#32) 0#1) (IntOp.cmpi .ne r 0#32)
      = BitVec.ofBool (decide (r.toInt < 0)) := by
    unfold IntOp.andi IntOp.xori IntOp.cmpi
    have h1 : r.slt 0#32 = decide (r.toInt < 0) := rfl
    by_cases h0 : r.toInt < 0
    · have : (r != 0#32) = true := by
        rw [bne_iff_ne, ne_eq, word_eq_zero_iff]; omega
      simp [h1, h0, this]
    · simp [h1, h0]
  rw [hc, pick_bit]
  unfold IntOp.addi
  split
  · rename_i h
    have h := of_decide_eq_true h
    rw [BitVec.toInt_add]
    have : (128#32 : BitVec 32).toInt = 128 := by decide
    rw [this]
    split at hm <;> (rw [Int.bmod_eq_of_le (by omega) (by omega)]; omega)
  · rename_i h
    have h : ¬ r.toInt < 0 := fun k => h (decide_eq_true k)
    split at hm <;> omega

/-- The high part, read signed, is the floored quotient. -/
theorem toInt_highPart (w : BitVec 32) : (highPart w).toInt = w.toInt / 128 := by
  have hr := toInt_rem w
  have hq := toInt_quot w
  have hb := BitVec.le_toInt w
  have hb' := BitVec.toInt_lt (x := w)
  have hm : w.toInt.tmod 128 = if 0 ≤ w.toInt then w.toInt % 128 else -((-w.toInt) % 128) := by
    split
    · exact Int.tmod_eq_emod_of_nonneg ‹_›
    · rw [← Int.tmod_eq_emod_of_nonneg (by omega), Int.neg_tmod, neg_neg]
  have hd : w.toInt.tdiv 128 = if 0 ≤ w.toInt then w.toInt / 128 else -((-w.toInt) / 128) := by
    split
    · exact Int.tdiv_eq_ediv_of_nonneg ‹_›
    · rw [← Int.tdiv_eq_ediv_of_nonneg (by omega), Int.neg_tdiv, neg_neg]
  unfold highPart
  generalize IntOp.remsi .vector w 128#32 = r at *
  generalize IntOp.divsi .vector w 128#32 = q at *
  have hc : IntOp.andi
      (IntOp.cmpi .ne (IntOp.subi ((IntOp.cmpi .sgt w 0#32).setWidth 32) ((IntOp.cmpi .slt w 0#32).setWidth 32)) 1#32)
      (IntOp.cmpi .ne r 0#32) = BitVec.ofBool (decide (w.toInt ≤ 0 ∧ r.toInt ≠ 0)) := by
    unfold IntOp.andi IntOp.subi IntOp.cmpi
    have h1 : w.slt 0#32 = decide (w.toInt < 0) := rfl
    have h2 : (0#32).slt w = decide (0 < w.toInt) := rfl
    have h3 : (r != 0#32) = decide (r.toInt ≠ 0) := by
      rw [Bool.eq_iff_iff, bne_iff_ne, ne_eq, word_eq_zero_iff, decide_eq_true_iff]
    rw [h1, h2, h3]
    rcases lt_trichotomy w.toInt 0 with h | h | h
    · by_cases k : r.toInt = 0 <;> simp [h, k, le_of_lt h, not_lt_of_gt h]
    · by_cases k : r.toInt = 0 <;> simp [h, k]
    · by_cases k : r.toInt = 0 <;> simp [h, k, not_le_of_gt h, not_lt_of_gt h]
  rw [hc, pick_bit]
  unfold IntOp.subi
  split
  · rename_i h
    have h := of_decide_eq_true h
    rw [BitVec.toInt_sub]
    have : (1#32 : BitVec 32).toInt = 1 := by decide
    rw [this]
    split at hd <;> (rw [Int.bmod_eq_of_le (by omega) (by omega)]; omega)
  · rename_i h
    have h : ¬ (w.toInt ≤ 0 ∧ r.toInt ≠ 0) := fun k => h (decide_eq_true k)
    split at hd <;> omega

/-- A small natural's word, read signed, is the natural. -/
theorem toInt_small {n : Nat} (h : n < 128) : (BitVec.ofNat 32 n).toInt = n := by
  rw [BitVec.toInt_ofNat', Int.bmod_eq_of_le (by omega) (by omega)]

/-- The two parts name place `(h, l)` of the table exactly when the word, read signed, is `128 h + l`. -/
theorem parts_iff (w : BitVec 32) {h l : Nat} (hh : h < 4) (hl : l < 128) :
    (highPart w = BitVec.ofNat 32 h ∧ lowPart w = BitVec.ofNat 32 l) ↔ w.toInt = ((128 * h + l : Nat) : Int) := by
  rw [← BitVec.toInt_inj, ← BitVec.toInt_inj, toInt_highPart, toInt_lowPart, toInt_small hl, toInt_small (by omega)]
  omega

end Cert.Pooling
-- ==== Proof.Pooling.Block.lean ====
/-
  What one grid point of the kernel computes from its blocks: the energies of its 5000 atoms, and the 4 × 128 table of
  what each molecule collects from them.
-/
module

public import proofs.«01_k».proof.Proof.Pooling.Readout
public import proofs.«01_k».proof.Proof.Pooling.Words
public import proofs.«01_k».proof.Proof.Gen.KernelIdeal.Skeleton
public import Idealize.ShloMosaic.Lib.Pointwise

@[expose] public section

set_option maxRecDepth 16384

noncomputable section

namespace Cert.KernelIdeal.Pooling

open Idealize.ShloMosaic Cert.KernelIdeal Cert.KernelIdeal.Gen Cert.Pooling
open scoped BigOperators

/-- The column of energies the kernel forms holds, in row `r`, the energy of atom `r` of the block. -/
theorem energies_apply (e : Vec Ideal S5000x256 .f32) (w1 : Vec Ideal S256x256 .f32) (b1 : Vec Ideal S1x256 .f32)
    (w2 : Vec Ideal S256x1 .f32) (b2 : Vec Ideal S1x1 .f32) (r : Fin 5000) (z : Fin 1) :
    k0_pay2 (F := Ideal) e w1 b1 w2 b2 (ix2 r z)
      = readout (fun i => e (ix2 r i)) (fun i j => w1 (ix2 i j)) (fun j => b1 (ix2 0 j)) (fun j => w2 (ix2 j 0))
          (b2 (ix2 0 0)) := by
  pointwise [k0_pay2]
  rw [half_pattern]
  unfold readout hiddenUnit
  refine congrArg (· + _) (Finset.sum_congr rfl fun j _ => ?_)
  rw [gate_eq, Subsingleton.elim z 0]

/-- The divisor, as the kernel guards it against zero, is 128. -/
theorem divisor : Scalar.select (Scalar.cmpi .eq 128#32 0#32) 1#32 128#32 = 128#32 := by decide
/-- The divisor is not negative. -/
theorem divisor_sign : Scalar.cmpi .slt 128#32 0#32 = 0#1 := by decide
/-- The divisor's sign, as the kernel computes it, is one. -/
theorem divisor_signum :
    Scalar.subi (Scalar.extui (Scalar.cmpi .sgt 128#32 0#32)) (Scalar.extui (Scalar.cmpi .slt 128#32 0#32)) = 1#32 := by
  decide

/-- A comparison's bit as a float, one or zero, times a value, under a second condition: the value where both
    conditions hold, zero elsewhere. -/
theorem bit_times (p q : Bool) (x : EReal) :
    Scalar.select (BitVec.ofBool q)
      ((FloatOps.sitofp .f32 ((BitVec.ofBool p).setWidth 32) : Ideal .f32) * x) (0 : EReal)
      = if p = true ∧ q = true then x else 0 := by
  have one : (FloatOps.sitofp .f32 ((BitVec.ofBool true).setWidth 32) : Ideal .f32) = (1 : EReal) := by
    show ((((BitVec.ofBool true).setWidth 32 : BitVec 32).toInt : ℝ) : EReal) = 1
    rw [show ((BitVec.ofBool true).setWidth 32 : BitVec 32).toInt = 1 by decide]; simp
  have zero : (FloatOps.sitofp .f32 ((BitVec.ofBool false).setWidth 32) : Ideal .f32) = (0 : EReal) := by
    show ((((BitVec.ofBool false).setWidth 32 : BitVec 32).toInt : ℝ) : EReal) = 0
    rw [show ((BitVec.ofBool false).setWidth 32 : BitVec 32).toInt = 0 by decide]; simp
  rw [pick_bit]
  cases p <;> cases q
  · simp
  · rw [zero]; simp
  · simp
  · rw [one]; simp

/-- The table a grid point forms from its column of energies and its block of molecule numbers. -/
abbrev table (energy : FVec Ideal S5000x1 .f32) (mol : Vec Ideal S1x1x5000 .i32) : FVec Ideal S4x128 .f32 :=
  k0_pay7 (F := Ideal) energy (k0_pay3 (F := Ideal) mol) (iota .tc S5000x128 32 [1] iota_S5000x128_d1_w32)
    (Scalar.select (Scalar.cmpi .eq 128#32 0#32) 1#32 128#32) (k0_pay4 (F := Ideal) mol) (k0_pay5 (F := Ideal) mol)
    (k0_pay6 (F := Ideal) mol) (Scalar.cmpi .slt (Scalar.select (Scalar.cmpi .eq 128#32 0#32) 1#32 128#32) 0#32)

/-- Place `(h, l)` of the table holds what molecule `128 h + l` collects from the block's atoms. -/
theorem table_apply (energy : FVec Ideal S5000x1 .f32) (mol : Vec Ideal S1x1x5000 .i32) (h : Fin 4) (l : Fin 128) :
    table energy mol (ix2 h l)
      = collected (fun r => mol (ix3 0 0 r)) (fun r => energy (ix2 r 0)) (128 * h.val + l.val) := by
  pointwise [k0_pay7, k0_pay3, k0_pay4, k0_pay5, k0_pay6]
  simp only [divisor, divisor_sign, divisor_signum]
  unfold collected
  refine Finset.sum_congr rfl fun r _ => ?_
  have split := parts_iff (mol (ix3 0 0 r)) h.isLt l.isLt
  unfold highPart lowPart at split
  rw [IntOp.cmpi, IntOp.cmpi, bit_times]
  refine if_congr ?_ rfl rfl
  rw [← split]
  exact and_congr beq_iff_eq beq_iff_eq

/-- The block a grid point starts from, when it is the first, is zero everywhere. -/
theorem start_apply (j : S4x128.Idx) : k0_pay8 (F := Ideal) j = 0 := by
  pointwise [k0_pay8]

/-- The fold's step adds the table to what the output block held. -/
theorem step_apply (t held : FVec Ideal S4x128 .f32) (j : S4x128.Idx) : k0_pay1 (F := Ideal) t held j = held j + t j := by
  pointwise [k0_pay1]

end Cert.KernelIdeal.Pooling

end
-- ==== Proof.Pooling.Accumulate.lean ====
/-
  What the kernel's result array holds. The output block is the whole 4 × 128 table and stays in place over the ten grid
  points: the first point starts it at zero, every point adds its own table, and only the last point writes it back.
-/
module

public import proofs.«01_k».proof.Proof.Pooling.Block
public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Pooling

open Idealize.ShloMosaic Idealize.ShloMosaic.TcCoe Idealize.SL.Sem
open Cert.KernelIdeal Cert.KernelIdeal.Gen Cert.Pooling
open Idealize.ShloMosaic.Pipeline (Dat)
open scoped BigOperators

theorem zeros2 : (![0, 0] : Fin 2 → Nat) = fun _ => 0 := funext fun a => by fin_cases a <;> rfl
theorem zeros3 : (![0, 0, 0] : Fin 3 → Nat) = fun _ => 0 := funext fun a => by fin_cases a <;> rfl

variable (m : (ℓ : Loc nD τ sig) → Buf (Elt Ideal) ℓ) (ρ : Dev nD → PrngReg)

/-- A later grid point leaves, in an output block that held `held`, the sum of `held` and its own table. -/
theorem later_point (c : Dev nD) (i : grid0.Coords) (a1 : Memref sig .tc .vmem S1x1x5000 .i32) (h1 : a1.IsWhole)
    (a2 : Memref sig .tc .vmem S5000x256 .f32) (h2 : a2.IsWhole) (a3 : Memref sig .tc .vmem S256x256 .f32) (h3 : a3.IsWhole)
    (a4 : Memref sig .tc .vmem S1x256 .f32) (h4 : a4.IsWhole) (a5 : Memref sig .tc .vmem S256x1 .f32) (h5 : a5.IsWhole)
    (a6 : Memref sig .tc .vmem S1x1 .f32) (h6 : a6.IsWhole) (a7 : Memref sig .tc .vmem S4x128 .f32) (h7 : a7.IsWhole)
    (hc : ¬cond0_0 i) (mol : Vec Ideal S1x1x5000 .i32) (e : Vec Ideal S5000x256 .f32) (w1 : Vec Ideal S256x256 .f32)
    (b1 : Vec Ideal S1x256 .f32) (w2 : Vec Ideal S256x1 .f32) (b2 : Vec Ideal S1x1 .f32) (held : Vec Ideal S4x128 .f32) :
    out0_B_6 c i a1 h1 a2 h2 a3 h3 a4 h4 a5 h5 a6 h6 a7 h7 hc mol e w1 b1 w2 b2 held
      = k0_pay1 (F := Ideal) (table (k0_pay2 e w1 b1 w2 b2) mol) held := by
  unfold out0_B_6
  rw [View.read_writes_eq_canon _ _ _ (cover0_B_6 c i a1 h1 a2 h2 a3 h3 a4 h4 a5 h5 a6 h6 a7 h7 hc mol e w1 b1 w2 b2 held)]
  unfold kernelRun0_B
  dsimp only
  try sl_unfold_words
  rw [View.canon_unit_zero zeros2]
  simp only [View.readAt_eq_ld, h1.read_unread, h2.read_unread, h3.read_unread, h4.read_unread, h5.read_unread,
    h6.read_unread, h7.read_unread, View.ld_unit_zero (S := S1x1) zeros2, View.ld_unit_zero (S := S1x1x5000) zeros3,
    View.ld_unit_zero (S := S1x256) zeros2, View.ld_unit_zero (S := S256x1) zeros2,
    View.ld_unit_zero (S := S256x256) zeros2, View.ld_unit_zero (S := S4x128) zeros2,
    View.ld_unit_zero (S := S5000x256) zeros2]
  rfl

/-- The first grid point leaves the sum of the zero block and its own table. -/
theorem first_point (c : Dev nD) (i : grid0.Coords) (a1 : Memref sig .tc .vmem S1x1x5000 .i32) (h1 : a1.IsWhole)
    (a2 : Memref sig .tc .vmem S5000x256 .f32) (h2 : a2.IsWhole) (a3 : Memref sig .tc .vmem S256x256 .f32) (h3 : a3.IsWhole)
    (a4 : Memref sig .tc .vmem S1x256 .f32) (h4 : a4.IsWhole) (a5 : Memref sig .tc .vmem S256x1 .f32) (h5 : a5.IsWhole)
    (a6 : Memref sig .tc .vmem S1x1 .f32) (h6 : a6.IsWhole) (a7 : Memref sig .tc .vmem S4x128 .f32) (h7 : a7.IsWhole)
    (hc : cond0_0 i) (mol : Vec Ideal S1x1x5000 .i32) (e : Vec Ideal S5000x256 .f32) (w1 : Vec Ideal S256x256 .f32)
    (b1 : Vec Ideal S1x256 .f32) (w2 : Vec Ideal S256x1 .f32) (b2 : Vec Ideal S1x1 .f32) :
    out0_A_6 c i a1 h1 a2 h2 a3 h3 a4 h4 a5 h5 a6 h6 a7 h7 hc mol e w1 b1 w2 b2
      = k0_pay1 (F := Ideal) (table (k0_pay2 e w1 b1 w2 b2) mol) (k0_pay8 (F := Ideal)) := by
  unfold out0_A_6
  rw [View.read_writes_eq_canon _ _ _ (cover0_A_6 c i a1 h1 a2 h2 a3 h3 a4 h4 a5 h5 a6 h6 a7 h7 hc mol e w1 b1 w2 b2)]
  unfold kernelRun0_A
  dsimp only
  try sl_unfold_words
  rw [View.canon_cons_unit_zero (S := S4x128) zeros2, View.readCov_unit_zero (S := S4x128) _ zeros2]
  simp only [View.readAt_eq_ld, h1.read_unread, h2.read_unread, h3.read_unread, h4.read_unread, h5.read_unread,
    h6.read_unread, View.ld_unit_zero (S := S1x1) zeros2, View.ld_unit_zero (S := S1x1x5000) zeros3,
    View.ld_unit_zero (S := S1x256) zeros2, View.ld_unit_zero (S := S256x1) zeros2,
    View.ld_unit_zero (S := S256x256) zeros2, View.ld_unit_zero (S := S4x128) zeros2,
    View.ld_unit_zero (S := S5000x256) zeros2]
  rfl

/-- The table of grid point `t`: formed from the blocks that point reads. -/
abbrev tableAt (c : Dev nD) (t : Fin cfg0.N) : FVec Ideal S4x128 .f32 :=
  table (k0_pay2 (F := Ideal) (iblk m c 1 t) (iblk m c 2 t) (iblk m c 3 t) (iblk m c 4 t) (iblk m c 5 t)) (iblk m c 0 t)

/-- After point `n` the output block holds, place by place, the sum of the tables of the points up to `n`. -/
theorem held_apply (c : Dev nD) (j : S4x128.Idx) : ∀ (n : ℕ) (h : n < cfg0.N),
    (outsAt0 m c n h : FVec Ideal S4x128 .f32) j
      = ∑ s : Fin (n + 1), tableAt m c ⟨s.val, Nat.lt_of_le_of_lt (Nat.le_of_lt_succ s.isLt) h⟩ j
  | 0, h => by
    rw [show outsAt0 m c 0 h = _ from (outsAt0_A m c ⟨0, h⟩ rfl).trans (first_point ..), step_apply, start_apply, zero_add]
    exact (Fin.sum_univ_one (fun s : Fin 1 =>
      tableAt m c ⟨s.val, Nat.lt_of_le_of_lt (Nat.le_of_lt_succ s.isLt) h⟩ j)).symm
  | n + 1, h => by
    have hN : cfg0.N = 10 := N_0
    have hB : ¬(⟨n + 1, h⟩ : Fin cfg0.N).val % 10 = 0 := by dsimp only; omega
    rw [show outsAt0 m c (n + 1) h = _ from (outsAt0_B m c ⟨n + 1, h⟩ hB).trans (later_point ..), step_apply]
    refine (congrArg (· + _) (held_apply c j n (Nat.lt_of_succ_lt h))).trans ?_
    exact (Fin.sum_univ_castSucc (n := n + 1)
      (fun s => tableAt m c ⟨s.val, Nat.lt_of_le_of_lt (Nat.le_of_lt_succ s.isLt) h⟩ j)).symm

/-- What the output block holds after the last point. -/
abbrev total (c : Dev nD) : Buf (Elt Ideal) ((c : Thread nD τ).loc main_v3) :=
  outsAt0 m c 9 (by rw [show cfg0.N = 10 from N_0]; decide)

/-- The one write-back, at the last point, writes the whole result array. -/
theorem written_back (c : Dev nD) (t : Fin cfg0.N) (hf : (cfg0.win 6).flush t = true) :
    (dats m 0 c).flushed 6 t = ((cfg0.win 6).blk t).view.read (Elt Ideal) (total m c) := by
  have hN : cfg0.N = 10 := N_0
  have h9 : t.val = 9 := by have := (flush0_6 t).mp hf; have := t.isLt; omega
  obtain rfl : t = t0_9 := Fin.ext h9
  show (cfg0.win 6).cut (grid0.coords t0_9) ((dats m 0 c).after 6 t0_9) = _
  rw [after0_6]
  have hz : (fun a => win0_6.index t0_9 a * main_v3.ty.shape.size a) = fun _ => 0 := funext fun a => by fin_cases a <;> decide
  exact (Memref.read_access_unit_zero (Elt Ideal) main_v3 hz (fun a => by rw [congrFun hz a]; simp) (total m c)).symm

/-- So the result array ends holding what the block held after the last point. -/
theorem final_array (c : Dev nD) : (dats m 0 c).arrAt 6 cfg0.N = total m c :=
  (dats m 0 c).arrAt_eq_of_cover 6 (total m c) (written_back m c) fun i =>
    ⟨t0_9, (flush0_6 t0_9).mpr rfl, by
      show i ∈ ((View.whole main_v3).slice (win0_6.rect t0_9)).set
      rw [View.set_slice_whole, Rect.mem_set_unit]
      intro a
      have b0 : (i 0 : Nat) < 4 := (i 0).isLt
      have b1 : (i 1 : Nat) < 128 := (i 1).isLt
      have o0 : win0_6.index t0_9 0 * win0_6.size 0 = 0 := by decide +kernel
      have o1 : win0_6.index t0_9 1 * win0_6.size 1 = 0 := by decide +kernel
      have s0 : win0_6.xsize (grid0.coords t0_9) 0 = 4 := by decide +kernel
      have s1 : win0_6.xsize (grid0.coords t0_9) 1 = 128 := by decide +kernel
      fin_cases a
      · show win0_6.index t0_9 0 * win0_6.size 0 ≤ (i 0 : Nat)
          ∧ (i 0 : Nat) < win0_6.index t0_9 0 * win0_6.size 0 + win0_6.xsize (grid0.coords t0_9) 0
        rw [o0, s0]; omega
      · show win0_6.index t0_9 1 * win0_6.size 1 ≤ (i 1 : Nat)
          ∧ (i 1 : Nat) < win0_6.index t0_9 1 * win0_6.size 1 + win0_6.xsize (grid0.coords t0_9) 1
        rw [o1, s1]; omega⟩

/-- The trailing reshape reads the result array. -/
theorem result_tail (c : Dev nD) :
    Pipeline.afterTail₀ cfgs (dats m) 0 (V0 m) [hostOps1] c main_v4
      = shapeCast S512 (total m c) shapeCasts_S4x128_S512 := by
  unfold Pipeline.afterTail₀
  have h : Pipeline.withArrays (cfgs 0).spec c (V0 m c) (fun w => (dats m 0 c).arrAt w (cfgs 0).N) (Proc.devRef .tc main_v3)
      = total m c :=
    (Pipeline.withArrays_arr (cfgs 0).spec (by decide) c (V0 m c) (fun w => (dats m 0 c).arrAt w (cfgs 0).N) 6).trans
      (final_array m c)
  simp only [List.flatten_cons, List.flatten_nil, List.append_nil, hostOps1]
  rw [← h]
  after_results
  rfl

end Cert.KernelIdeal.Pooling

end
-- ==== Proof.Pooling.Launch.lean ====
/-
  What the kernel's whole run computes. Every block a grid point reads is read back to the launch's arguments: point `t`
  reads the molecule numbers and the embeddings of the atoms `5000 t … 5000 t + 4999` and the same weights as all others.
-/
module

public import proofs.«01_k».proof.Proof.Pooling.Accumulate
public import Idealize.ShloMosaic.Lib.StableHlo.ReadAt

@[expose] public section

set_option maxRecDepth 16384

noncomputable section

namespace Cert.KernelIdeal.Pooling

open Idealize.ShloMosaic Idealize.ShloMosaic.TcCoe Idealize.SL.Sem
open Cert.KernelIdeal Cert.KernelIdeal.Gen Cert.Pooling
open scoped BigOperators

variable (m : (ℓ : Loc nD τ sig) → Buf (Elt Ideal) ℓ)

/-- The embeddings given to the launch. -/
abbrev embeddings (c : Dev nD) : FVec Ideal S50000x256 .f32 := m ((c : Thread nD τ).loc main_arg0)
/-- The molecule numbers given to the launch. -/
abbrev molecules (c : Dev nD) : Vec Ideal S50000 .i32 := m ((c : Thread nD τ).loc main_arg1)
/-- The first layer's weights. -/
abbrev weights1 (c : Dev nD) : FVec Ideal S256x256 .f32 := m ((c : Thread nD τ).loc main_arg2)
/-- The first layer's offsets. -/
abbrev offsets1 (c : Dev nD) : FVec Ideal S256 .f32 := m ((c : Thread nD τ).loc main_arg3)
/-- The second layer's weights. -/
abbrev weights2 (c : Dev nD) : FVec Ideal S256x1 .f32 := m ((c : Thread nD τ).loc main_arg4)
/-- The second layer's offset. -/
abbrev offset2 (c : Dev nD) : FVec Ideal S1 .f32 := m ((c : Thread nD τ).loc main_arg5)

/-- Atom `r` of the block of grid point `t`, as one of all atoms. -/
def atom (t : Fin cfg0.N) (r : Fin 5000) : Fin 50000 :=
  ⟨5000 * t.val + r.val, by have := t.isLt; have : cfg0.N = 10 := N_0; omega⟩

/-- The energy the readout gives to atom `a` of the launch's arguments. -/
def atomEnergy (c : Dev nD) (a : Fin 50000) : EReal :=
  readout (fun i => embeddings m c (ix2 a i)) (fun i j => weights1 m c (ix2 i j)) (fun j => offsets1 m c (ix1 j))
    (fun j => weights2 m c (ix2 j 0)) (offset2 m c (ix1 0))

/-- The molecule numbers as the launch lays them out, ten rows of 5000. -/
theorem molecules_laid_out (c : Dev nD) (t : Fin cfg0.N) (ht : t.val < 10) (r : Fin 5000) :
    (V m c main_v0 : Vec Ideal S10x1x5000 .i32) (ix3 ⟨t.val, ht⟩ 0 r) = molecules m c (ix1 (atom t r)) := by
  unfold V V0
  after_reads_at
  exact congrArg (molecules m c) (congrArg ix1 (Fin.ext (by show t.val * 5000 + r.val = 5000 * t.val + r.val; omega)))

/-- The first layer's offsets as the launch lays them out, one row. -/
theorem offsets1_laid_out (c : Dev nD) (j : Fin 256) :
    (V m c main_v1 : FVec Ideal S1x256 .f32) (ix2 0 j) = offsets1 m c (ix1 j) := by
  unfold V V0
  after_reads_at

/-- The second layer's offset as the launch lays it out. -/
theorem offset2_laid_out (c : Dev nD) :
    (V m c main_v2 : FVec Ideal S1x1 .f32) (ix2 0 0) = offset2 m c (ix1 0) := by
  unfold V V0
  after_reads_at

/-- Block `t` of the molecule numbers is that of the atoms of point `t`. -/
theorem molecules_block (c : Dev nD) (t : Fin cfg0.N) (r : Fin 5000) :
    (iblk m c 0 t : Vec Ideal S1x1x5000 .i32) (ix3 0 0 r) = molecules m c (ix1 (atom t r)) := by
  have ht : t.val < 10 := by have := t.isLt; have : cfg0.N = 10 := N_0; omega
  have hi : win0_0.index t 0 = t.val ∧ win0_0.index t 1 = 0 ∧ win0_0.index t 2 = 0 := by
    rcases fin_N0 t with rfl | rfl | rfl | rfl | rfl | rfl | rfl | rfl | rfl | rfl <;> decide
  refine Eq.trans ?_ (molecules_laid_out m c t ht r)
  unfold iblk
  rw [View.read_apply]
  show V m c main_v0 _ = V m c main_v0 _
  congr 1
  funext a
  apply Fin.ext
  match a with
  | ⟨0, _⟩ => show win0_0.index t 0 * 1 + 1 * 0 = t.val; rw [hi.1]; omega
  | ⟨1, _⟩ => show win0_0.index t 1 * 1 + 1 * 0 = 0; rw [hi.2.1]
  | ⟨2, _⟩ => show win0_0.index t 2 * 5000 + 1 * r.val = r.val; rw [hi.2.2]; omega

/-- Block `t` of the embeddings is that of the atoms of point `t`. -/
theorem embeddings_block (c : Dev nD) (t : Fin cfg0.N) (r : Fin 5000) (i : Fin 256) :
    (iblk m c 1 t : FVec Ideal S5000x256 .f32) (ix2 r i) = embeddings m c (ix2 (atom t r) i) := by
  have hi : win0_1.index t 0 = t.val ∧ win0_1.index t 1 = 0 := by
    rcases fin_N0 t with rfl | rfl | rfl | rfl | rfl | rfl | rfl | rfl | rfl | rfl <;> decide
  unfold iblk
  rw [View.read_apply]
  show V m c main_arg0 _ = _
  rw [V_main_arg0]
  show embeddings m c _ = embeddings m c _
  congr 1
  funext a
  apply Fin.ext
  match a with
  | ⟨0, _⟩ => show win0_1.index t 0 * 5000 + 1 * r.val = 5000 * t.val + r.val; rw [hi.1]; omega
  | ⟨1, _⟩ => show win0_1.index t 1 * 256 + 1 * i.val = i.val; rw [hi.2]; omega

/-- Every point reads all of the first layer's weights. -/
theorem weights1_block (c : Dev nD) (t : Fin cfg0.N) (i j : Fin 256) :
    (iblk m c 2 t : FVec Ideal S256x256 .f32) (ix2 i j) = weights1 m c (ix2 i j) := by
  have hi : win0_2.index t 0 = 0 ∧ win0_2.index t 1 = 0 := by
    rcases fin_N0 t with rfl | rfl | rfl | rfl | rfl | rfl | rfl | rfl | rfl | rfl <;> decide
  unfold iblk
  rw [View.read_apply]
  show V m c main_arg2 _ = _
  rw [V_main_arg2]
  show weights1 m c _ = weights1 m c _
  congr 1
  funext a
  apply Fin.ext
  match a with
  | ⟨0, _⟩ => show win0_2.index t 0 * 256 + 1 * i.val = i.val; rw [hi.1]; omega
  | ⟨1, _⟩ => show win0_2.index t 1 * 256 + 1 * j.val = j.val; rw [hi.2]; omega

/-- Every point reads all of the first layer's offsets. -/
theorem offsets1_block (c : Dev nD) (t : Fin cfg0.N) (j : Fin 256) :
    (iblk m c 3 t : FVec Ideal S1x256 .f32) (ix2 0 j) = offsets1 m c (ix1 j) := by
  have hi : win0_3.index t 0 = 0 ∧ win0_3.index t 1 = 0 := by
    rcases fin_N0 t with rfl | rfl | rfl | rfl | rfl | rfl | rfl | rfl | rfl | rfl <;> decide
  refine Eq.trans ?_ (offsets1_laid_out m c j)
  unfold iblk
  rw [View.read_apply]
  show V m c main_v1 _ = V m c main_v1 _
  congr 1
  funext a
  apply Fin.ext
  match a with
  | ⟨0, _⟩ => show win0_3.index t 0 * 1 + 1 * 0 = 0; rw [hi.1]
  | ⟨1, _⟩ => show win0_3.index t 1 * 256 + 1 * j.val = j.val; rw [hi.2]; omega

/-- Every point reads all of the second layer's weights. -/
theorem weights2_block (c : Dev nD) (t : Fin cfg0.N) (j : Fin 256) :
    (iblk m c 4 t : FVec Ideal S256x1 .f32) (ix2 j 0) = weights2 m c (ix2 j 0) := by
  have hi : win0_4.index t 0 = 0 ∧ win0_4.index t 1 = 0 := by
    rcases fin_N0 t with rfl | rfl | rfl | rfl | rfl | rfl | rfl | rfl | rfl | rfl <;> decide
  unfold iblk
  rw [View.read_apply]
  show V m c main_arg4 _ = _
  rw [V_main_arg4]
  show weights2 m c _ = weights2 m c _
  congr 1
  funext a
  apply Fin.ext
  match a with
  | ⟨0, _⟩ => show win0_4.index t 0 * 256 + 1 * j.val = j.val; rw [hi.1]; omega
  | ⟨1, _⟩ => show win0_4.index t 1 * 1 + 1 * 0 = 0; rw [hi.2]

/-- Every point reads the second layer's offset. -/
theorem offset2_block (c : Dev nD) (t : Fin cfg0.N) :
    (iblk m c 5 t : FVec Ideal S1x1 .f32) (ix2 0 0) = offset2 m c (ix1 0) := by
  have hi : win0_5.index t 0 = 0 ∧ win0_5.index t 1 = 0 := by
    rcases fin_N0 t with rfl | rfl | rfl | rfl | rfl | rfl | rfl | rfl | rfl | rfl <;> decide
  refine Eq.trans ?_ (offset2_laid_out m c)
  unfold iblk
  rw [View.read_apply]
  show V m c main_v2 _ = V m c main_v2 _
  congr 1
  funext a
  apply Fin.ext
  match a with
  | ⟨0, _⟩ => show win0_5.index t 0 * 1 + 1 * 0 = 0; rw [hi.1]
  | ⟨1, _⟩ => show win0_5.index t 1 * 1 + 1 * 0 = 0; rw [hi.2]

/-- The energies that point `t` computes are those of its atoms. -/
theorem energies_block (c : Dev nD) (t : Fin cfg0.N) (r : Fin 5000) :
    k0_pay2 (F := Ideal) (iblk m c 1 t) (iblk m c 2 t) (iblk m c 3 t) (iblk m c 4 t) (iblk m c 5 t) (ix2 r 0)
      = atomEnergy m c (atom t r) := by
  rw [energies_apply, offset2_block]
  simp only [embeddings_block, weights1_block, offsets1_block, weights2_block]
  rfl

/-- The table of point `t` collects the energies of its atoms by molecule. -/
theorem tableAt_apply (c : Dev nD) (t : Fin cfg0.N) (h : Fin 4) (l : Fin 128) :
    tableAt m c t (ix2 h l)
      = collected (fun r => molecules m c (ix1 (atom t r))) (fun r => atomEnergy m c (atom t r)) (128 * h.val + l.val) := by
  refine (table_apply _ _ h l).trans ?_
  simp only [molecules_block, energies_block]

/-- What the result holds for molecule `k`: over the ten blocks, the energies of the atoms numbered `k`. -/
def pooled (c : Dev nD) (k : ℕ) : EReal :=
  ∑ t : Fin 10, collected (fun r => molecules m c (ix1 (atom (t.cast N_0.symm) r)))
    (fun r => atomEnergy m c (atom (t.cast N_0.symm) r)) k

/-- The result array, entry by entry. -/
theorem total_apply (c : Dev nD) (h : Fin 4) (l : Fin 128) :
    (total m c : FVec Ideal S4x128 .f32) (ix2 h l) = pooled m c (128 * h.val + l.val) :=
  (held_apply m c (ix2 h l) 9 _).trans (Finset.sum_congr rfl fun s _ => tableAt_apply m c _ h l)

/-- The returned vector, entry by entry. -/
theorem returned_apply (c : Dev nD) (k : Fin 512) :
    (shapeCast S512 (total m c : FVec Ideal S4x128 .f32) shapeCasts_S4x128_S512 : FVec Ideal S512 .f32) (ix1 k)
      = pooled m c k.val := by
  pointwise
  refine (total_apply m c _ _).trans (congrArg (pooled m c) ?_)
  show 128 * (k.val / 128) + k.val % 128 = k.val
  omega

/-- The kernel's launch returns, for each molecule, its atoms' energies, and leaves its arguments as they were. -/
theorem launch_run (ρ : Dev nD → PrngReg) : θ_run defs (onTc (τ := τ) (main (F := Ideal))) (s₀ m ρ)
    (fun r => ∀ c : Dev nD, r.2.mem ((c : Thread nD τ).loc main_v4) = shapeCast S512 (total m c) shapeCasts_S4x128_S512
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨((h c).2 main_v4 (Pipeline.mem_restRefs_of main_v4 (by decide) (by decide))).trans (result_tail m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Pooling

end
-- ==== Proof.Pooling.Reference.lean ====
/-
  What the reference computes. Its scatter adds, for each molecule, the energies of the atoms that carry its number, read
  as a signed word; an atom with a number that is no molecule's is added nowhere.
-/
module

public import proofs.«01_k».proof.Proof.Pooling.Launch
public import proofs.«01_k».proof.Proof.Gen.ReferenceIdeal.Run
public import Idealize.ShloMosaic.Lib.Routing.OpsPair

@[expose] public section

set_option maxRecDepth 16384

noncomputable section

namespace Cert.ReferenceIdeal.Pooling

open Idealize.ShloMosaic Idealize.ShloMosaic.TcCoe Idealize.SL.Sem
open Cert.ReferenceIdeal Cert.ReferenceIdeal.Gen Cert.Pooling
open scoped BigOperators

/-- The scatter's axes, by a short name. -/
abbrev axes : ScatterDims S512x1 S50000x1 S50000x1 := scatter_S512x1_S50000x1_S50000x1_1_0_0_1

/-- The closing reshape drops the column axis. -/
theorem column_dropped (x : FVec Ideal S512x1 .f32) (k : Fin 512) :
    shapeCast S512 x shapeCasts_S512x1_S512 (ix1 k) = x (ix2 k 0) := by
  pointwise

/-- The update of atom `a` lands in row `k` exactly when the atom's number, read signed, is `k`. -/
theorem lands_in_row (number : Vec Ideal S50000x1 .i32) (a : Fin 50000) (k : Fin 512) :
    ScatterDims.resultIdx? axes (ix2 a 0) number = some (ix2 k 0) ↔ (number (ix2 a 0)).toInt = (k.val : ℤ) := by
  have hrow : (0 : Fin 2) ∈ ScatterDims.scatterDimsToOperandDims axes := List.mem_singleton.2 rfl
  have window0 : ScatterDims.window axes (ix2 a 0) 0 = 0 := by
    unfold ScatterDims.window
    rw [dif_neg (by decide)]
  have window1 : ScatterDims.window axes (ix2 a 0) 1 = 0 := by
    unfold ScatterDims.window
    rw [dif_pos (by decide)]
    rfl
  have start1 : ScatterDims.start axes (ix2 a 0) number 1 = 0 := by
    unfold ScatterDims.start
    rw [dif_neg (by decide)]
  have start0 : ScatterDims.start axes (ix2 a 0) number 0 = (number (ix2 a 0)).toInt := by
    unfold ScatterDims.start
    rw [dif_pos hrow]
    congr 2
    funext b
    match b with
    | ⟨0, _⟩ => rfl
    | ⟨1, _⟩ => exact Subsingleton.elim (α := Fin 1) _ _
  refine (Routing.resultIdx?_ix2 (R := 512) (C := 1) axes (ix2 a 0) number k 0).trans ?_
  rw [start0, start1, window0, window1]
  simp

/-- So the scatter adds to row `k` what is collected for the number `k`. -/
theorem scattered (start : FVec Ideal S512x1 .f32) (number : Vec Ideal S50000x1 .i32) (energy : FVec Ideal S50000x1 .f32)
    (k : Fin 512) :
    Host.scatterAdd (F := Ideal) axes start number energy (ix2 k 0)
      = start (ix2 k 0) + collected (fun a => number (ix2 a 0)) (fun a => energy (ix2 a 0)) k.val := by
  show start (ix2 k 0) + ∑ j ∈ Finset.univ.filter (fun j => ScatterDims.resultIdx? axes j number = some (ix2 k 0)), energy j = _
  rw [Finset.sum_filter, sum_idx2]
  refine congrArg (start (ix2 k 0) + ·) (Finset.sum_congr rfl fun a _ => ?_)
  rw [Fin.sum_univ_one]
  exact if_congr (lands_in_row number a k) rfl rfl

variable (e : FVec Ideal S50000x256 .f32) (number : Vec Ideal S50000 .i32) (w1 : FVec Ideal S256x256 .f32)
  (b1 : FVec Ideal S256 .f32) (w2 : FVec Ideal S256x1 .f32) (b2 : FVec Ideal S1 .f32)

/-- The first layer's sums, before the gate. -/
abbrev layer1 : FVec Ideal S50000x256 .f32 :=
  addf (Host.dotGeneral dot_S50000x256_S256x256_S50000x256_1_0_0_1_n_n none e w1)
    (broadcastInDim S50000x256 ![0, 1] bcast_S1x256_S50000x256_0_1 (broadcastInDim S1x256 ![1] bcast_S256_S1x256_1 b1))

/-- The atoms' energies. -/
abbrev layer2 : FVec Ideal S50000x1 .f32 :=
  addf (Host.dotGeneral dot_S50000x256_S256x1_S50000x1_1_0_0_1_n_n none
      (mulf (layer1 e w1 b1) (Host.divf (broadcastInDim S50000x256 ![] bcast_S_S50000x256 (constant S_ .f32 0x3F800000#32))
        (addf (broadcastInDim S50000x256 ![] bcast_S_S50000x256 (constant S_ .f32 0x3F800000#32))
          (Host.exp (Host.negf (layer1 e w1 b1)))))) w2)
    (broadcastInDim S50000x1 ![0, 1] bcast_S1x1_S50000x1_0_1 (broadcastInDim S1x1 ![1] bcast_S1_S1x1_1 b2))

/-- The reference's result. -/
abbrev answer : FVec Ideal S512 .f32 :=
  shapeCast S512 (Host.scatterAdd axes (broadcastInDim S512x1 ![] bcast_S_S512x1 (constant S_ .f32 0x00000000#32))
    (broadcastInDim S50000x1 ![0] bcast_S50000_S50000x1_0 number) (layer2 e w1 b1 w2 b2)) shapeCasts_S512x1_S512

/-- The sum of the first layer at atom `a` and unit `j`. -/
theorem layer1_apply (a : Fin 50000) (j : Fin 256) :
    layer1 e w1 b1 (ix2 a j) = hiddenUnit (fun i => e (ix2 a i)) (fun i j => w1 (ix2 i j)) (fun j => b1 (ix1 j)) j := by
  unfold hiddenUnit
  pointwise [layer1]

/-- The energy of atom `a`. -/
theorem layer2_apply (a : Fin 50000) :
    layer2 e w1 b1 w2 b2 (ix2 a 0)
      = readout (fun i => e (ix2 a i)) (fun i j => w1 (ix2 i j)) (fun j => b1 (ix1 j)) (fun j => w2 (ix2 j 0)) (b2 (ix1 0)) := by
  unfold readout gate hiddenUnit
  pointwise [layer2, layer1]

/-- The result for molecule `k` is what is collected for `k` over all atoms. -/
theorem answer_apply (k : Fin 512) :
    answer e number w1 b1 w2 b2 (ix1 k)
      = collected (fun a => number (ix1 a)) (fun a => readout (fun i => e (ix2 a i)) (fun i j => w1 (ix2 i j))
          (fun j => b1 (ix1 j)) (fun j => w2 (ix2 j 0)) (b2 (ix1 0))) k.val := by
  refine (column_dropped _ k).trans ?_
  rw [scattered]
  simp only [layer2_apply]
  pointwise

end Cert.ReferenceIdeal.Pooling

end
-- ==== Proof.Pooling.Equation.lean ====
/-
  The equation between the two programs: what is collected block by block is what is collected over all atoms, because the
  ten blocks of 5000 atoms are all 50000 atoms.
-/
module

public import proofs.«01_k».proof.Proof.Pooling.Reference

@[expose] public section

noncomputable section

namespace Cert.Pooling

open Idealize.ShloMosaic Idealize.ShloMosaic.TcCoe Idealize.SL.Sem
open scoped BigOperators

/-- A sum over 50000 atoms, taken block by block. -/
theorem sum_by_blocks (f : Fin 50000 → EReal) :
    ∑ t : Fin 10, ∑ r : Fin 5000, f (KernelIdeal.Pooling.atom (t.cast KernelIdeal.Gen.N_0.symm) r) = ∑ a, f a := by
  rw [← Fintype.sum_prod_type']
  refine Fintype.sum_equiv (finProdFinEquiv (m := 10) (n := 5000)) _ _ fun x => congrArg f (Fin.ext ?_)
  show 5000 * x.1.val + x.2.val = x.2.val + 5000 * x.1.val
  omega

/-- What the kernel holds for molecule `k` is what is collected for `k` over all atoms. -/
theorem pooled_eq (m : (ℓ : Loc KernelIdeal.nD KernelIdeal.τ KernelIdeal.sig) → Buf (Elt Ideal) ℓ) (c : Dev KernelIdeal.nD)
    (k : ℕ) :
    KernelIdeal.Pooling.pooled m c k
      = collected (fun a => KernelIdeal.Pooling.molecules m c (ix1 a)) (KernelIdeal.Pooling.atomEnergy m c) k :=
  sum_by_blocks fun a => if (KernelIdeal.Pooling.molecules m c (ix1 a)).toInt = (k : ℤ)
    then KernelIdeal.Pooling.atomEnergy m c a else 0

/-- The reference's result, at the kernel's arguments, is the kernel's result. -/
theorem answer_eq (m : (ℓ : Loc KernelIdeal.nD KernelIdeal.τ KernelIdeal.sig) → Buf (Elt Ideal) ℓ) (c : Dev KernelIdeal.nD) :
    ReferenceIdeal.Pooling.answer (KernelIdeal.Pooling.embeddings m c) (KernelIdeal.Pooling.molecules m c)
        (KernelIdeal.Pooling.weights1 m c) (KernelIdeal.Pooling.offsets1 m c) (KernelIdeal.Pooling.weights2 m c)
        (KernelIdeal.Pooling.offset2 m c)
      = shapeCast KernelIdeal.S512 (KernelIdeal.Pooling.total m c : FVec Ideal KernelIdeal.S4x128 .f32)
          KernelIdeal.Facts₀.shapeCasts_S4x128_S512 := by
  funext i
  idx_vars i
  exact (ReferenceIdeal.Pooling.answer_apply _ _ _ _ _ _ _).trans
    ((pooled_eq m c _).symm.trans (KernelIdeal.Pooling.returned_apply m c _).symm)

end Cert.Pooling

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pooling.Equation
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Kernel and reference, from arguments that agree, end with the same 512 sums. -/
theorem same_sums : Cert.algebraic_KernelIdeal_ReferenceIdeal := by
  intro m g m' g' _ hargs
  refine ⟨fun c => shapeCast Cert.KernelIdeal.S512 (Cert.KernelIdeal.Pooling.total m c)
      Cert.KernelIdeal.Facts₀.shapeCasts_S4x128_S512, Cert.KernelIdeal.Pooling.launch_run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hargs c
  rw [h0, h1, h2, h3, h4, h5]
  exact Cert.Pooling.answer_eq m c

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, same_sums⟩

end Cert.Proof

end
